-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unbiased [hPre_finite_and_unbiased : Cert.Pre_finite_and_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unbiased [hPre_finite_and_unbiased : Cert.Pre_finite_and_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_and_unbiased [hKernelIdeal : Cert.KernelIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_and_unbiased [hReferenceIdeal : Cert.ReferenceIdeal.Facts] [hPre_finite_and_unbiased : Cert.Pre_finite_and_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_and_unbiased [hKernelIdeal : Cert.KernelIdeal.Facts] [hReferenceIdeal : Cert.ReferenceIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_and_unbiased : Cert.Pre_finite_and_unbiased.Facts),
    quiescent_Kernel (hKernel := hKernel)
    ∧ quiescent_KernelIdeal (hKernelIdeal := hKernelIdeal)
    ∧ quiescent_KernelIdeal_pre_finite_and_unbiased (hKernelIdeal := hKernelIdeal) (hPre_finite_and_unbiased := hPre_finite_and_unbiased)
    ∧ quiescent_ReferenceIdeal (hReferenceIdeal := hReferenceIdeal)
    ∧ quiescent_ReferenceIdeal_pre_finite_and_unbiased (hReferenceIdeal := hReferenceIdeal) (hPre_finite_and_unbiased := hPre_finite_and_unbiased)
    ∧ preserves_Kernel_KernelIdeal
    ∧ algebraic_KernelIdeal_ReferenceIdeal_pre_finite_and_unbiased (hKernelIdeal := hKernelIdeal) (hReferenceIdeal := hReferenceIdeal) (hPre_finite_and_unbiased := hPre_finite_and_unbiased)
-- ==== Pre_finite_and_unbiased.lean ====
abbrev S16384x256 : Shape := ⟨2, ![16384, 256]⟩
abbrev S1024x256 : Shape := ⟨2, ![1024, 256]⟩
abbrev S256x256 : Shape := ⟨2, ![256, 256]⟩
abbrev S256 : Shape := ⟨1, ![256]⟩
abbrev S256x512 : Shape := ⟨2, ![256, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v13 main_v16
  main_v17

def fn {F : FTy → Type} [FloatOps F] (main_arg0 : FVec F S16384x256 .f32) (main_arg1 : FVec F S1024x256 .f32) (main_arg2 : FVec F S256x256 .f32) (main_arg3 : FVec F S256 .f32) (main_arg4 : FVec F S256x512 .f32) (main_arg5 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_cst_4 : FVec F S_ .f32 := constant S_ .f32 0x00000000#32
  let main_v14 : FVec F S256 .f32 := broadcastInDim S256 ![] bcast_S_S256 main_cst_4
  let main_v15 : IVec S256 1 := cmpf .oeq main_arg3 main_v14
  let main_c_5 : IVec S_ 1 := constantI S_ 1 1#1
  fn_part1 (F := F) main_v13 main_v15 main_c_5
-- ==== Kernel.lean ====
abbrev S16384x256 : Shape := ⟨2, ![16384, 256]⟩
abbrev S1024x256 : Shape := ⟨2, ![1024, 256]⟩
abbrev S256x256 : Shape := ⟨2, ![256, 256]⟩
abbrev S256 : Shape := ⟨1, ![256]⟩
abbrev S256x512 : Shape := ⟨2, ![256, 512]⟩
abbrev S1x256 : Shape := ⟨2, ![1, 256]⟩
abbrev S2048x256 : Shape := ⟨2, ![2048, 256]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S256x256, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S1x256, .f32⟩
  | .hbm, ⟨7, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S256x256, .f32⟩
  | .local _ .vmem, ⟨4, _⟩ => ⟨S256x512, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S1024x256, .bf16⟩
  | .local _ .vmem, ⟨9, _⟩ => ⟨S1024x256, .bf16⟩
  | .local _ .vmem, ⟨10, _⟩ => ⟨S256x512, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x256 : Shape := ⟨2, ![16384, 256]⟩
abbrev S1024x256 : Shape := ⟨2, ![1024, 256]⟩
abbrev S256x256 : Shape := ⟨2, ![256, 256]⟩
abbrev S256 : Shape := ⟨1, ![256]⟩
abbrev S256x512 : Shape := ⟨2, ![256, 512]⟩
abbrev S1x256 : Shape := ⟨2, ![1, 256]⟩
abbrev S256x1024 : Shape := ⟨2, ![256, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S16384x512 : Shape := ⟨2, ![16384, 512]⟩
abbrev S512x256 : Shape := ⟨2, ![512, 256]⟩

abbrev nBuf : Space → Nat
  | .hbm => 51
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S256x256, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S256x256, .f32⟩
  | .hbm, ⟨7, _⟩ => ⟨S16384x256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S256x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x256, .f32⟩
  | .hbm, ⟨31, _⟩ => ⟨S16384x512, .f32⟩
  | .hbm, ⟨32, _⟩ => ⟨S512x256, .f32⟩
  | .hbm, ⟨33, _⟩ => ⟨S16384x256, .f32⟩
  | .hbm, ⟨34, _⟩ => ⟨S1x256, .f32⟩
  | .hbm, ⟨35, _⟩ => ⟨S16384x256, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S_, .f32⟩
  | .hbm, ⟨40, _⟩ => ⟨S16384x256, .f32⟩
  | .hbm, ⟨41, _⟩ => ⟨S16384x256, .f32⟩
  | .hbm, ⟨42, _⟩ => ⟨S_, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Row.lean ====
/-
  One row of the attention read-out, as mathematics over the extended reals: what the reference computes for it, what the kernel
  computes for it, and that the two are equal. No program is mentioned here.

  A row is `X` (256 numbers). It is scored against 1024 slots `S` after the projection `Wq` with bias `bq`; the slots are averaged
  under the softmax of the scores; a gate computed from the row and the average by `Wg`, `bg` blends the two.
-/
module

public import Idealize.ShloMosaic.PureOps.Ideal
public import Idealize.ShloMosaic.PureOps.Ideal.Laws

@[expose] public section

noncomputable section

namespace Cert.Row

open Idealize.ShloMosaic

/-! ## What the reference computes -/

/-- The score of slot `s`: the projected row `X Wqᵀ + bq` against the slot, divided by 16 = √256. -/
def refScore (X : Fin 256 → EReal) (S : Fin 1024 → Fin 256 → EReal) (Wq : Fin 256 → Fin 256 → EReal) (bq : Fin 256 → EReal)
    (s : Fin 1024) : EReal :=
  Ideal.div (∑ j, (∑ k, X k * Wq j k + bq j) * S s j) ((16 : ℝ) : EReal)

/-- The largest score. -/
def refMax (X : Fin 256 → EReal) (S : Fin 1024 → Fin 256 → EReal) (Wq : Fin 256 → Fin 256 → EReal) (bq : Fin 256 → EReal) : EReal :=
  max ⊥ (Finset.fold max ⊥ (fun s => refScore X S Wq bq s) Finset.univ)

/-- The softmax weight of slot `s`: the exponential of its score less the largest score, over the sum of these. -/
def refWeight (X : Fin 256 → EReal) (S : Fin 1024 → Fin 256 → EReal) (Wq : Fin 256 → Fin 256 → EReal) (bq : Fin 256 → EReal)
    (s : Fin 1024) : EReal :=
  Ideal.div (Ideal.exp (refScore X S Wq bq s - refMax X S Wq bq)) (∑ s', Ideal.exp (refScore X S Wq bq s' - refMax X S Wq bq))

/-- The retrieved row at column `d`: the slots averaged under the weights. -/
def refRead (X : Fin 256 → EReal) (S : Fin 1024 → Fin 256 → EReal) (Wq : Fin 256 → Fin 256 → EReal) (bq : Fin 256 → EReal)
    (d : Fin 256) : EReal :=
  ∑ s, refWeight X S Wq bq s * S s d

/-- The gate at column `o`, from the row and the retrieved row `R`. -/
def refGate (X R : Fin 256 → EReal) (Wg : Fin 256 → Fin 512 → EReal) (bg : Fin 256 → EReal) (o : Fin 256) : EReal :=
  Ideal.div 1 (1 + Ideal.exp (-(∑ k : Fin 256, X k * Wg o ⟨k, by omega⟩ + ∑ k : Fin 256, R k * Wg o ⟨256 + k, by omega⟩ + bg o)))

/-- The reference's row: gate times the retrieved row, plus one less gate times the row. -/
def refOut (X : Fin 256 → EReal) (S : Fin 1024 → Fin 256 → EReal) (Wq : Fin 256 → Fin 256 → EReal) (bq : Fin 256 → EReal)
    (Wg : Fin 256 → Fin 512 → EReal) (bg : Fin 256 → EReal) (o : Fin 256) : EReal :=
  refGate X (refRead X S Wq bq) Wg bg o * refRead X S Wq bq o + (1 - refGate X (refRead X S Wq bq) Wg bg o) * X o

/-! ## What the kernel computes -/

/-- The projected slots, kept from the first block on: `S Wq` scaled by 1/16. -/
def kerSlot (S : Fin 1024 → Fin 256 → EReal) (Wq : Fin 256 → Fin 256 → EReal) (s : Fin 1024) (k : Fin 256) : EReal :=
  (∑ j, S s j * Wq j k) * ((1 / 16 : ℝ) : EReal)

/-- The exponential of slot `s`'s score, the row against the projected slot; nothing is subtracted from the score. -/
def kerExp (X : Fin 256 → EReal) (T : Fin 1024 → Fin 256 → EReal) (s : Fin 1024) : EReal :=
  Ideal.exp (∑ k, X k * T s k)

/-- The retrieved row at column `d`: the slots summed under the exponentials, then times the reciprocal of their sum. -/
def kerRead (X : Fin 256 → EReal) (T S : Fin 1024 → Fin 256 → EReal) (d : Fin 256) : EReal :=
  (∑ s, kerExp X T s * S s d) * Ideal.div 1 (∑ s, kerExp X T s)

/-- The gate at column `o`, from the row and the retrieved row `R`: the bias is added to the row's part. -/
def kerGate (X R : Fin 256 → EReal) (Wg : Fin 256 → Fin 512 → EReal) (bg : Fin 256 → EReal) (o : Fin 256) : EReal :=
  Ideal.logistic (∑ k : Fin 256, X k * Wg o ⟨k, by omega⟩ + bg o + ∑ k : Fin 256, R k * Wg o ⟨256 + k, by omega⟩)

/-- The kernel's row, of projected slots `T`: the row moved toward the retrieved row by the gate. -/
def kerOut (X : Fin 256 → EReal) (T S : Fin 1024 → Fin 256 → EReal) (Wg : Fin 256 → Fin 512 → EReal) (bg : Fin 256 → EReal)
    (o : Fin 256) : EReal :=
  X o + kerGate X (kerRead X T S) Wg bg o * (kerRead X T S o - X o)

/-! ## They are equal -/

/-- A sum of real numbers is the same taken in the extended reals. -/
theorem coe_sum {ι : Type} (A : Finset ι) (f : ι → ℝ) : ((∑ i ∈ A, f i : ℝ) : EReal) = ∑ i ∈ A, (f i : EReal) :=
  map_sum (⟨⟨Real.toEReal, EReal.coe_zero⟩, EReal.coe_add⟩ : ℝ →+ EReal) f A

/-- The largest of finitely many reals, at least one, folded from minus infinity, is a real number. -/
theorem fold_max_real {ι : Type} [Fintype ι] [Nonempty ι] (f : ι → ℝ) :
    ∃ M : ℝ, max ⊥ (Finset.fold max ⊥ (fun i => (f i : EReal)) Finset.univ) = (M : EReal) := by
  obtain ⟨i, -, hi⟩ := Finset.exists_mem_eq_sup Finset.univ Finset.univ_nonempty (fun i => (f i : EReal))
  refine ⟨f i, ?_⟩
  rw [max_eq_right bot_le]
  exact hi

/-- Any average under a softmax: subtracting a number `M` from the scores does not change it, and the division by the sum of the
    exponentials may be done after the weighted sum. The average is a real number. -/
theorem softmax_average {ι : Type} [Fintype ι] [Nonempty ι] (σ v : ι → ℝ) (M : ℝ) :
    ∃ r : ℝ,
      ∑ s, Ideal.div (Ideal.exp ((σ s : EReal) - (M : EReal))) (∑ s', Ideal.exp ((σ s' : EReal) - (M : EReal))) * (v s : EReal) = (r : EReal)
      ∧ (∑ s, Ideal.exp (σ s : EReal) * (v s : EReal)) * Ideal.div 1 (∑ s, Ideal.exp (σ s : EReal)) = (r : EReal) := by
  have hD : (∑ s, Real.exp (σ s)) ≠ 0 := (Finset.sum_pos (fun s _ => Real.exp_pos _) Finset.univ_nonempty).ne'
  have hD' : (∑ s, Real.exp (σ s - M)) ≠ 0 := (Finset.sum_pos (fun s _ => Real.exp_pos _) Finset.univ_nonempty).ne'
  refine ⟨(∑ s, Real.exp (σ s) * v s) * (1 / ∑ s, Real.exp (σ s)), ?_, ?_⟩
  · simp only [← EReal.coe_sub, Ideal.exp_coe, ← coe_sum, Ideal.div_coe hD', ← EReal.coe_mul]
    congr 1
    have hs : (∑ s, Real.exp (σ s - M)) = (∑ s, Real.exp (σ s)) / Real.exp M := by
      rw [Finset.sum_div]
      exact Finset.sum_congr rfl fun s _ => Real.exp_sub _ _
    rw [Finset.sum_mul]
    refine Finset.sum_congr rfl fun s _ => ?_
    rw [hs, Real.exp_sub]
    have hM : Real.exp M ≠ 0 := (Real.exp_pos M).ne'
    field_simp
  · simp only [Ideal.exp_coe, ← EReal.coe_mul, ← coe_sum, Ideal.div_coe hD, one_mul]

/-- The gate is a real number, whatever extended real it is computed from. -/
theorem logistic_real (z : EReal) : ∃ g : ℝ, Ideal.logistic z = (g : EReal) := by
  induction z with
  | bot => exact ⟨0, by simp⟩
  | coe r => exact ⟨_, Ideal.logistic_coe r⟩
  | top => exact ⟨1, by simp⟩

/-- The two gates are one function of the row and the retrieved row: the bias may be added in either place. -/
theorem gate_eq (X R : Fin 256 → EReal) (Wg : Fin 256 → Fin 512 → EReal) (bg : Fin 256 → EReal) (o : Fin 256) :
    refGate X R Wg bg o = kerGate X R Wg bg o := by
  unfold refGate kerGate
  rw [add_right_comm]
  rfl

variable {X : Fin 256 → EReal} {S : Fin 1024 → Fin 256 → EReal} {Wq : Fin 256 → Fin 256 → EReal} {bq : Fin 256 → EReal}

/-- With finite inputs and no bias the two scores are one real number: the product with `Wq` may be taken on the slots' side. -/
theorem score_eq (hX : ∀ k, ∃ r : ℝ, X k = r) (hS : ∀ s k, ∃ r : ℝ, S s k = r) (hW : ∀ j k, ∃ r : ℝ, Wq j k = r)
    (hb : ∀ j, bq j = 0) (s : Fin 1024) :
    ∃ σ : ℝ, refScore X S Wq bq s = (σ : EReal) ∧ ∑ k, X k * kerSlot S Wq s k = (σ : EReal) := by
  choose x hx using hX
  choose v hv using hS
  choose w hw using hW
  refine ⟨(∑ j, (∑ k, x k * w j k) * v s j) * (1 / 16), ?_, ?_⟩
  · unfold refScore
    simp only [hx, hv, hw, hb, add_zero, ← EReal.coe_mul, ← coe_sum, Ideal.div_coe (show (16 : ℝ) ≠ 0 by norm_num)]
  · unfold kerSlot
    simp only [hx, hv, hw, ← EReal.coe_mul, ← coe_sum]
    congr 1
    simp only [Finset.sum_mul, Finset.mul_sum]
    rw [Finset.sum_comm]
    refine Finset.sum_congr rfl fun j _ => Finset.sum_congr rfl fun k _ => ?_
    ring

/-- With finite inputs and no bias the two retrieved rows are one real number at every column. -/
theorem read_eq (hX : ∀ k, ∃ r : ℝ, X k = r) (hS : ∀ s k, ∃ r : ℝ, S s k = r) (hW : ∀ j k, ∃ r : ℝ, Wq j k = r)
    (hb : ∀ j, bq j = 0) (d : Fin 256) :
    ∃ r : ℝ, refRead X S Wq bq d = (r : EReal) ∧ kerRead X (kerSlot S Wq) S d = (r : EReal) := by
  choose σ hσ hσ' using fun s => score_eq hX hS hW hb s
  choose v hv using hS
  obtain ⟨M, hM⟩ := fold_max_real σ
  have hmax : refMax X S Wq bq = (M : EReal) := by
    unfold refMax
    simp only [hσ]
    exact hM
  obtain ⟨r, h1, h2⟩ := softmax_average σ (fun s => v s d) M
  refine ⟨r, ?_, ?_⟩
  · unfold refRead refWeight
    simp only [hσ, hmax, hv]
    exact h1
  · unfold kerRead kerExp
    simp only [hσ', hv]
    exact h2

/-- THE EQUATION: on a finite row, finite slots, a finite projection and no projection bias, the kernel's row is the reference's, at
    every column. Nothing is asked of the gate's weights or bias. -/
theorem out_eq (hX : ∀ k, ∃ r : ℝ, X k = r) (hS : ∀ s k, ∃ r : ℝ, S s k = r) (hW : ∀ j k, ∃ r : ℝ, Wq j k = r)
    (hb : ∀ j, bq j = 0) (Wg : Fin 256 → Fin 512 → EReal) (bg : Fin 256 → EReal) (o : Fin 256) :
    kerOut X (kerSlot S Wq) S Wg bg o = refOut X S Wq bq Wg bg o := by
  have hread : refRead X S Wq bq = kerRead X (kerSlot S Wq) S := funext fun d => by
    obtain ⟨r, h1, h2⟩ := read_eq hX hS hW hb d
    rw [h1, h2]
  obtain ⟨r, -, hr⟩ := read_eq hX hS hW hb o
  obtain ⟨x, hx⟩ := hX o
  obtain ⟨g, hg⟩ : ∃ g : ℝ, kerGate X (kerRead X (kerSlot S Wq) S) Wg bg o = (g : EReal) := logistic_real _
  unfold kerOut refOut
  rw [hread, gate_eq, hg, hr, hx, ← EReal.coe_one]
  simp only [← EReal.coe_sub, ← EReal.coe_mul, ← EReal.coe_add]
  congr 1
  ring

end Cert.Row

end
-- ==== Proof.Constants.lean ====
/-
  The float constants the two programs spell by their bits, as extended reals.
-/
module

public import Idealize.ShloMosaic.PureOps.Ideal
public import Idealize.ShloMosaic.PureOps.Ideal.Laws

@[expose] public section

noncomputable section

namespace Cert.Constants

open Idealize.ShloMosaic

/-- The reference's divisor is 16. -/
theorem sixteen : Ideal.ofBits .f32 0x41800000#32 = ((16 : ℝ) : EReal) := by
  simp [Ideal.ofBits, Ideal.ieee]
  rw [← EReal.coe_mul]
  norm_num

/-- The kernel's scale is 1/16, exactly. -/
theorem sixteenth : Ideal.ofBits .f32 0x3D800000#32 = ((1 / 16 : ℝ) : EReal) := by
  simp [Ideal.ofBits, Ideal.ieee]
  rw [← EReal.coe_mul]
  norm_num

/-- The reference's maximum starts from minus infinity. -/
theorem minus_infinity : Ideal.ofBits .f32 0xFF800000#32 = ⊥ := by
  simp [Ideal.ofBits, Ideal.ieee]

/-- The precondition compares against plus infinity. -/
theorem infinity : Ideal.ofBits .f32 0x7F800000#32 = ⊤ := by
  simp [Ideal.ofBits, Ideal.ieee]

end Cert.Constants

end
-- ==== Proof.Block.lean ====
/-
  What one grid point's body computes, read at a row and a column: the stored scratches and the stored block of results, as the
  mathematics of Row.lean. Stated of any vectors the body may find in its buffers.
-/
module

public import proofs.«01_k».proof.Proof.Gen.KernelIdeal.Skeleton
public import proofs.«01_k».proof.Proof.Row
public import proofs.«01_k».proof.Proof.Constants
public import Idealize.ShloMosaic.Lib.Pointwise

@[expose] public section

noncomputable section

namespace Cert.KernelIdeal.Hand

open Cert.KernelIdeal Cert.KernelIdeal.Gen Idealize.ShloMosaic Idealize.ShloMosaic.TcCoe Idealize.SL.Sem

/-- The first point stores the projected slots: `S Wq` scaled by 1/16. -/
theorem pay1_apply (S : Vec Ideal S1024x256 .f32) (Wq : Vec Ideal S256x256 .f32) (s : Fin 1024) (k : Fin 256) :
    k0_pay1 S Wq (ix2 s k) = Row.kerSlot (fun s k => S (ix2 s k)) (fun j k => Wq (ix2 j k)) s k := by
  pointwise [k0_pay1]
  rw [Constants.sixteenth]
  rfl

/-- The first point keeps the slots: the change of format is the identity on extended reals. -/
theorem pay2_eq (S : Vec Ideal S1024x256 .f32) : k0_pay2 S = S := by
  funext i
  pointwise [k0_pay2]

/-- The first point keeps the gate's weights likewise. -/
theorem pay3_eq (Wg : Vec Ideal S256x512 .f32) : k0_pay3 Wg = Wg := by
  funext i
  pointwise [k0_pay3]

/-- EVERY POINT STORES, at row `p` and column `o` of its block, `Row.kerOut` of row `p` of its query block `X`, the projected slots
    `T` and the slots `S` it keeps, the gate's weights (their first 256 columns `Wr`, which meet the row, and their last 256
    `Wl`, which meet the retrieved row) and the gate's bias `bg`. -/
theorem pay4_apply (X : Vec Ideal S2048x256 .f32) (T S : Vec Ideal S1024x256 .bf16) (Wr Wl : Vec Ideal S256x256 .bf16)
    (bg : Vec Ideal S1x256 .f32) (Wg : Fin 256 → Fin 512 → EReal) (p : Fin 2048) (o : Fin 256)
    (hr : ∀ o k : Fin 256, Wr (ix2 o k) = Wg o ⟨k, by omega⟩) (hl : ∀ o k : Fin 256, Wl (ix2 o k) = Wg o ⟨256 + k, by omega⟩) :
    k0_pay4 X T Wr bg S Wl (ix2 p o) = Row.kerOut (fun k => X (ix2 p k)) (fun s k => T (ix2 s k)) (fun s k => S (ix2 s k)) Wg
      (fun o => bg (ix2 0 o)) o := by
  pointwise [k0_pay4]
  simp only [hr, hl]
  rfl

end Cert.KernelIdeal.Hand

end
-- ==== Proof.Points.lean ====
/-
  What the kernel's buffers hold at each grid point: the blocks it is given, as parts of the argument arrays, and after the point the
  three scratches and the block of results. The scratches are stored at the first point and never again.
-/
module

public import proofs.«01_k».proof.Proof.Gen.KernelIdeal.Value
public import proofs.«01_k».proof.Proof.Block
public import Idealize.ShloMosaic.Lib.Pointwise
public import Idealize.ShloMosaic.Lib.Pipeline.ValueKit
public import Idealize.ShloMosaic.Lib.Pipeline.ReadBack

@[expose] public section

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The blocks a point is given -/

/-- At every point the slots, the projection, the gate's weights and the gate's bias are given from their arrays' beginning, and
    the query and the result by the point's number. -/
theorem index_maps : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- Point `t` is given rows `2048 t` to `2048 t + 2047` of the query. -/
theorem query_block (t : Fin cfg0.N) (p : Fin 2048) (k : Fin 256) (h : t.val * 2048 + p.val < 16384) :
    iblk m c 0 t (ix2 p k) = m ((c : Thread nD τ).loc main_arg0) (ix2 ⟨t.val * 2048 + p.val, h⟩ k) := by
  blk_ext! [iblk, V, index_maps t]

/-- Every point is given all the slots. -/
theorem slots_block (t : Fin cfg0.N) : iblk m c 1 t = m ((c : Thread nD τ).loc main_arg1) := by
  funext y
  blk_ext [iblk, V, index_maps t]

/-- Every point is given the whole projection. -/
theorem projection_block (t : Fin cfg0.N) : iblk m c 2 t = m ((c : Thread nD τ).loc main_arg2) := by
  funext y
  blk_ext [iblk, V, index_maps t]

/-- Every point is given all the gate's weights. -/
theorem weights_block (t : Fin cfg0.N) : iblk m c 3 t = m ((c : Thread nD τ).loc main_arg4) := by
  funext y
  blk_ext [iblk, V, index_maps t]

/-- Every point is given the gate's bias, as an array of one row. -/
theorem bias_block (t : Fin cfg0.N) (o : Fin 256) :
    iblk m c 4 t (ix2 0 o) = m ((c : Thread nD τ).loc main_arg5) (ix1 o) := by
  blk_ext! [iblk, V, index_maps t]

/-! ## What a point leaves -/

/-- The projected slots that the scratch keeps. -/
abbrev keptProjected : Vec Ideal S1024x256 .bf16 :=
  k0_pay1 (m ((c : Thread nD τ).loc main_arg1)) (m ((c : Thread nD τ).loc main_arg2))

/-- The slots that the scratch keeps. -/
abbrev keptSlots : Vec Ideal S1024x256 .bf16 := k0_pay2 (m ((c : Thread nD τ).loc main_arg1))

/-- The gate's weights that the scratch keeps. -/
abbrev keptWeights : Vec Ideal S256x512 .bf16 := k0_pay3 (m ((c : Thread nD τ).loc main_arg4))

/-- The block of results of point `t`: the body's stored vector over the query block and the kept scratches. -/
def pointResult (t : Fin cfg0.N) : Vec Ideal S2048x256 .f32 :=
  k0_pay4 (iblk m c 0 t) (keptProjected m c)
    (View.ld (keptWeights m c) (Rect.unit ![0, 0] ![256, 256] inb_S256x512_S256x256_0_0)) (iblk m c 4 t) (keptSlots m c)
    (View.ld (keptWeights m c) (Rect.unit ![0, 256] ![256, 256] inb_S256x512_S256x256_0_256))

/-- A part loaded from a buffer just stored whole is that part of what was stored. -/
theorem load_of_whole (w : Vec Ideal S256x512 .bf16) (r : Rect S256x512) :
    (View.whole cc0_scratch2).readCov [⟨Rect.unit ![0, 0] ![256, 512] inb_S256x512_S256x512_0_0, w⟩] r.toLoadRect
      = View.ld w r := by
  exact View.readCov_fill _ _ w [] r (by decide)

/-- AFTER EVERY POINT the three scratches hold the projected slots, the slots and the gate's weights, and the result block
    is `pointResult`. By induction on the point: the first stores the scratches, the others find them. -/
theorem point_leaves : ∀ (n : ℕ) (h : n < cfg0.N),
    outsAt0 m c n h = (pointResult m c ⟨n, h⟩, keptProjected m c, keptSlots m c, keptWeights m c)
  | 0, h => by
    rw [outsAt0_A m c ⟨0, h⟩ rfl]
    frame_out
    simp only [slots_block, projection_block, weights_block]
    exact congrArg₂ (fun a b => (k0_pay4 _ _ a _ _ b, keptProjected m c, keptSlots m c, keptWeights m c))
      (load_of_whole _ _) (load_of_whole _ _)
  | n + 1, h => by
    have hN : cfg0.N = 8 := N_0
    rw [outsAt0_B m c ⟨n + 1, h⟩ (by show ¬(n + 1) % 8 = 0; omega)]
    frame_out
    simp only [read_unread_whole, sout0_B_0, sout0_B_1, sout0_B_2, Nat.add_sub_cancel, point_leaves n (by omega)]
    rfl

end Cert.KernelIdeal.Hand

end
-- ==== Proof.KernelArray.lean ====
/-
  The kernel's result array after the run, read at a row and a column. The eight points' blocks of 2048 rows tile the array.
-/
module

public import proofs.«01_k».proof.Proof.Points

@[expose] public section

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-- Row `i`, column `o` of the result, as the mathematics of one row: `Row.kerOut` of row `i` of the query, the projected slots,
    the slots, and the gate's weights and bias. -/
def resultAt (i : Fin 16384) (o : Fin 256) : EReal :=
  Row.kerOut (fun k => m ((c : Thread nD τ).loc main_arg0) (ix2 i k))
    (Row.kerSlot (fun s k => m ((c : Thread nD τ).loc main_arg1) (ix2 s k)) (fun j k => m ((c : Thread nD τ).loc main_arg2) (ix2 j k)))
    (fun s k => m ((c : Thread nD τ).loc main_arg1) (ix2 s k)) (fun o k => m ((c : Thread nD τ).loc main_arg4) (ix2 o k))
    (fun o => m ((c : Thread nD τ).loc main_arg5) (ix1 o)) o

/-- The result array. -/
def result : Buf (Elt Ideal) ((c : Thread nD τ).loc main_v0) := fun y : S16384x256.Idx => resultAt m c (y 0) (y 1)

/-- The block point `t` leaves holds, at row `p` and column `o`, the result at row `2048 t + p`. -/
theorem pointResult_apply (t : Fin cfg0.N) (p : Fin 2048) (o : Fin 256) (h : t.val * 2048 + p.val < 16384) :
    pointResult m c t (ix2 p o) = resultAt m c ⟨t.val * 2048 + p.val, h⟩ o := by
  unfold pointResult resultAt
  rw [pay4_apply (Wg := fun o k => m ((c : Thread nD τ).loc main_arg4) (ix2 o k))
    (hr := fun o k => by rw [keptWeights, pay3_eq]; pointwise) (hl := fun o k => by rw [keptWeights, pay3_eq]; pointwise)]
  simp only [keptProjected, keptSlots, pay1_apply, pay2_eq, query_block m c t p _ h, bias_block m c t]

/-- The same, at an index of the block and the index of the array that it is placed at. -/
theorem pointResult_at (t : Fin cfg0.N) (y : S2048x256.Idx) (j : S16384x256.Idx) (h0 : (j 0).val = t.val * 2048 + (y 0).val)
    (h1 : (j 1).val = (y 1).val) : pointResult m c t y = result m c j := by
  have e0 : (⟨t.val * 2048 + (y 0).val, h0 ▸ (j 0).isLt⟩ : Fin 16384) = j 0 := Fin.ext h0.symm
  have e1 : (y 1 : Fin 256) = j 1 := Fin.ext h1.symm
  rw [eq_ix2 y, pointResult_apply m c t (y 0) (y 1) (h0 ▸ (j 0).isLt), e0, e1]
  rfl

/-- THE KERNEL'S RESULT ARRAY after the run is `result`. -/
theorem array_eq : (dats m 0 c).arrAt 5 cfg0.N = result m c := by
  refine (dats m 0 c).arrAt_eq_of_covers 5 _ (by decide +kernel) fun t _ y => ?_
  have e : (dats m 0 c).after 5 t = pointResult m c t := by rw [after0_5, point_leaves]
  blk_simp
  rw [e]
  exact pointResult_at m c t y _ (by blk_simp [index_maps t]) (by blk_simp [index_maps t])

end Cert.KernelIdeal.Hand

end
-- ==== Proof.RefArray.lean ====
/-
  The reference's result array, read at a row and a column: row `i` is `Row.refOut` of row `i` of the query. The reference's
  composed term is cut at its scores, its weights, its retrieved rows and its gate, each named once and read in turn.
-/
module

public import proofs.«01_k».proof.Proof.Gen.ReferenceIdeal.Run
public import proofs.«01_k».proof.Proof.Row
public import proofs.«01_k».proof.Proof.Constants
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem

/-- All scores: the projected query against the slots, divided by 16. -/
def scores (query : FVec Ideal S16384x256 .f32) (slots : FVec Ideal S1024x256 .f32) (Wq : FVec Ideal S256x256 .f32)
    (bq : FVec Ideal S256 .f32) : FVec Ideal S16384x1024 .f32 :=
  Host.divf
    (Host.dotGeneral dot_S16384x256_S256x1024_S16384x1024_1_0_0_1_n_n none
      (addf (Host.dotGeneral dot_S16384x256_S256x256_S16384x256_1_0_0_1_n_n none query
          (transpose S256x256 [1, 0] Wq transposes_S256x256_S256x256_1_0))
        (broadcastInDim S16384x256 ![0, 1] bcast_S1x256_S16384x256_0_1 (broadcastInDim S1x256 ![1] bcast_S256_S1x256_1 bq)))
      (transpose S256x1024 [1, 0] slots transposes_S1024x256_S256x1024_1_0))
    (broadcastInDim S16384x1024 ![] bcast_S_S16384x1024 (constant S_ .f32 0x41800000#32))

/-- Each row's largest score. -/
def largest (x : FVec Ideal S16384x1024 .f32) : FVec Ideal S16384 .f32 :=
  Host.reduce FloatOps.maximumf x (constant S_ .f32 0xFF800000#32) reducesTo_S16384x1024_S16384_d1 h_S_

/-- The exponentials of the scores `x` less each row's number `M`, itself no less than minus infinity. -/
def shifted (x : FVec Ideal S16384x1024 .f32) (M : FVec Ideal S16384 .f32) : FVec Ideal S16384x1024 .f32 :=
  Host.exp (subf x (broadcastInDim S16384x1024 ![0, 1] bcast_S16384x1_S16384x1024_0_1
    (broadcastInDim S16384x1 ![0] bcast_S16384_S16384x1_0
      (maximumf (broadcastInDim S16384 ![] bcast_S_S16384 (constant S_ .f32 0xFF800000#32)) M))))

/-- The exponentials `e` divided by each row's sum. -/
def normalised (e : FVec Ideal S16384x1024 .f32) : FVec Ideal S16384x1024 .f32 :=
  Host.divf e (broadcastInDim S16384x1024 ![0, 1] bcast_S16384x1_S16384x1024_0_1
    (broadcastInDim S16384x1 ![0] bcast_S16384_S16384x1_0
      (Host.reduceAdd e (constant S_ .f32 0x00000000#32) reducesTo_S16384x1024_S16384_d1 h_S_)))

/-- The slots averaged under the weights `w`. -/
def retrieved (w : FVec Ideal S16384x1024 .f32) (slots : FVec Ideal S1024x256 .f32) : FVec Ideal S16384x256 .f32 :=
  Host.dotGeneral dot_S16384x1024_S1024x256_S16384x256_1_0_0_1_n_n none w slots

/-- The gate, from the query beside the retrieved rows `r`. -/
def gate (query r : FVec Ideal S16384x256 .f32) (Wg : FVec Ideal S256x512 .f32) (bg : FVec Ideal S256 .f32) :
    FVec Ideal S16384x256 .f32 :=
  Host.divf (broadcastInDim S16384x256 ![] bcast_S_S16384x256 (constant S_ .f32 0x3F800000#32))
    (addf (broadcastInDim S16384x256 ![] bcast_S_S16384x256 (constant S_ .f32 0x3F800000#32))
      (Host.exp (Host.negf (addf
        (Host.dotGeneral dot_S16384x512_S512x256_S16384x256_1_0_0_1_n_n none
          (concatenate S16384x512 1 [⟨S16384x256, query⟩, ⟨S16384x256, r⟩] concatenates_S16384x256_S16384x256_S16384x512_d1)
          (transpose S512x256 [1, 0] Wg transposes_S256x512_S512x256_1_0))
        (broadcastInDim S16384x256 ![0, 1] bcast_S1x256_S16384x256_0_1 (broadcastInDim S1x256 ![1] bcast_S256_S1x256_1 bg))))))

/-- The gate `g` times the retrieved rows `r`, plus one less the gate times the query. -/
def blended (query r g : FVec Ideal S16384x256 .f32) : FVec Ideal S16384x256 .f32 :=
  addf (mulf g r) (mulf (subf (broadcastInDim S16384x256 ![] bcast_S_S16384x256 (constant S_ .f32 0x3F800000#32)) g) query)

/-- The retrieved rows of the whole query. -/
def retrievedOf (query : FVec Ideal S16384x256 .f32) (slots : FVec Ideal S1024x256 .f32) (Wq : FVec Ideal S256x256 .f32)
    (bq : FVec Ideal S256 .f32) : FVec Ideal S16384x256 .f32 :=
  retrieved (normalised (shifted (scores query slots Wq bq) (largest (scores query slots Wq bq)))) slots

/-- The reference's composed term is the blend of these. -/
theorem result_eq (m : (ℓ : Loc nD τ sig) → Buf (Elt Ideal) ℓ) (c : Dev nD) :
    Value.res_out0 m c = blended (m ((c : Thread nD τ).loc main_arg0))
      (retrievedOf (m ((c : Thread nD τ).loc main_arg0)) (m ((c : Thread nD τ).loc main_arg1)) (m ((c : Thread nD τ).loc main_arg2))
        (m ((c : Thread nD τ).loc main_arg3)))
      (gate (m ((c : Thread nD τ).loc main_arg0))
        (retrievedOf (m ((c : Thread nD τ).loc main_arg0)) (m ((c : Thread nD τ).loc main_arg1)) (m ((c : Thread nD τ).loc main_arg2))
          (m ((c : Thread nD τ).loc main_arg3)))
        (m ((c : Thread nD τ).loc main_arg4)) (m ((c : Thread nD τ).loc main_arg5))) := rfl

section
variable (query : FVec Ideal S16384x256 .f32) (slots : FVec Ideal S1024x256 .f32) (Wq : FVec Ideal S256x256 .f32)
  (bq : FVec Ideal S256 .f32) (Wg : FVec Ideal S256x512 .f32) (bg : FVec Ideal S256 .f32)

/-- Row `i`'s score of slot `s`. -/
theorem scores_apply (i : Fin 16384) (s : Fin 1024) :
    scores query slots Wq bq (ix2 i s) = Row.refScore (fun k => query (ix2 i k)) (fun s k => slots (ix2 s k))
      (fun j k => Wq (ix2 j k)) (fun j => bq (ix1 j)) s := by
  pointwise [scores]
  rw [Constants.sixteen]
  rfl

/-- The largest score of row `i`. -/
theorem largest_apply (x : FVec Ideal S16384x1024 .f32) (i : Fin 16384) :
    largest x (ix1 i) = Finset.fold max ⊥ (fun s => x (ix2 i s)) Finset.univ := by
  pointwise [largest]
  rw [Constants.minus_infinity]

/-- The exponentials at row `i`, slot `s`. -/
theorem shifted_apply (x : FVec Ideal S16384x1024 .f32) (M : FVec Ideal S16384 .f32) (i : Fin 16384) (s : Fin 1024) :
    shifted x M (ix2 i s) = Ideal.exp (x (ix2 i s) - max ⊥ (M (ix1 i))) := by
  pointwise [shifted]
  rw [Constants.minus_infinity]

/-- The weights at row `i`, slot `s`: over the sum of the row. -/
theorem normalised_apply (e : FVec Ideal S16384x1024 .f32) (i : Fin 16384) (s : Fin 1024) :
    normalised e (ix2 i s) = Ideal.div (e (ix2 i s)) (∑ s, e (ix2 i s)) := by
  pointwise [normalised]

/-- The average at row `i`, column `d`. -/
theorem retrieved_apply (w : FVec Ideal S16384x1024 .f32) (i : Fin 16384) (d : Fin 256) :
    retrieved w slots (ix2 i d) = ∑ s, w (ix2 i s) * slots (ix2 s d) := by
  pointwise [retrieved]

/-- The gate at row `i`, column `o`. -/
theorem gate_apply (r : FVec Ideal S16384x256 .f32) (i : Fin 16384) (o : Fin 256) :
    gate query r Wg bg (ix2 i o) = Row.refGate (fun k => query (ix2 i k)) (fun k => r (ix2 i k)) (fun o k => Wg (ix2 o k))
      (fun o => bg (ix1 o)) o := by
  pointwise [gate]
  rfl

/-- The blend at row `i`, column `o`. -/
theorem blended_apply (r g : FVec Ideal S16384x256 .f32) (i : Fin 16384) (o : Fin 256) :
    blended query r g (ix2 i o) = g (ix2 i o) * r (ix2 i o) + (1 - g (ix2 i o)) * query (ix2 i o) := by
  pointwise [blended]

/-- The retrieved row `i` at column `d`. -/
theorem retrievedOf_apply (i : Fin 16384) (d : Fin 256) :
    retrievedOf query slots Wq bq (ix2 i d) = Row.refRead (fun k => query (ix2 i k)) (fun s k => slots (ix2 s k))
      (fun j k => Wq (ix2 j k)) (fun j => bq (ix1 j)) d := by
  unfold retrievedOf
  simp only [retrieved_apply, normalised_apply, shifted_apply, largest_apply, scores_apply]
  rfl

end

/-- THE REFERENCE'S RESULT at row `i`, column `o`, of the six argument arrays. -/
theorem result_apply (m : (ℓ : Loc nD τ sig) → Buf (Elt Ideal) ℓ) (c : Dev nD) (i : Fin 16384) (o : Fin 256) :
    Value.res_out0 m c (ix2 i o) = Row.refOut (fun k => m ((c : Thread nD τ).loc main_arg0) (ix2 i k))
      (fun s k => m ((c : Thread nD τ).loc main_arg1) (ix2 s k)) (fun j k => m ((c : Thread nD τ).loc main_arg2) (ix2 j k))
      (fun j => m ((c : Thread nD τ).loc main_arg3) (ix1 j)) (fun o k => m ((c : Thread nD τ).loc main_arg4) (ix2 o k))
      (fun o => m ((c : Thread nD τ).loc main_arg5) (ix1 o)) o := by
  rw [result_eq, blended_apply, gate_apply]
  simp only [retrievedOf_apply]
  rfl

end Cert.ReferenceIdeal.Hand

end
-- ==== Proof.Pre.lean ====
/-
  What the precondition `finite_and_unbiased` says of the argument arrays: every element of the query, of the slots and of the
  projection is a real number, and every element of the projection's bias is zero.
-/
module

public import proofs.«01_k».proof.Defs
public import proofs.«01_k».proof.Proof.Gen.KernelIdeal
public import proofs.«01_k».proof.Proof.Constants
public import Idealize.ShloMosaic.Lib.Pointwise
public import Idealize.ShloMosaic.Lib.ReduceAll

@[expose] public section

noncomputable section

namespace Cert.Pre_finite_and_unbiased.Hand

open Cert.Pre_finite_and_unbiased Idealize.ShloMosaic Idealize.ShloMosaic.TcCoe Idealize.SL.Sem

/-- The shape relations the predicate's operations state hold. -/
theorem facts : Facts where
  bcast_S_S16384x256 := by decide
  reducesTo_S16384x256_S_d0_1 := by decide
  h_S_ := by decide
  bcast_S_S1024x256 := by decide
  reducesTo_S1024x256_S_d0_1 := by decide
  bcast_S_S256x256 := by decide
  reducesTo_S256x256_S_d0_1 := by decide
  bcast_S_S256 := by decide
  reducesTo_S256_S_d0 := by decide

/-- An extended real whose absolute value is less than plus infinity is a real number. -/
theorem real_of_abs_lt {x : EReal} (h : Ideal.cmp .olt (max x (-x)) (Ideal.ofBits .f32 0x7F800000#32) = 1#1) :
    ∃ r : ℝ, x = (r : EReal) := by
  rw [Constants.infinity] at h
  induction x with
  | bot => simp [Ideal.cmp] at h
  | coe r => exact ⟨r, rfl⟩
  | top => simp [Ideal.cmp] at h

/-- An extended real that compares equal to the zero constant is zero. -/
theorem zero_of_eq {x : EReal} (h : Ideal.cmp .oeq x (Ideal.ofBits .f32 0x00000000#32) = 1#1) : x = 0 := by
  rw [Ideal.ofBits_zero_f32] at h
  by_contra hne
  simp [Ideal.cmp, hne] at h

variable [Facts]

/-- The predicate all ones: its four conjuncts at every index. -/
theorem conjuncts (query : FVec Ideal S16384x256 .f32) (slots : FVec Ideal S1024x256 .f32) (Wq : FVec Ideal S256x256 .f32)
    (bq : FVec Ideal S256 .f32) (Wg : FVec Ideal S256x512 .f32) (bg : FVec Ideal S256 .f32)
    (h : fn query slots Wq bq Wg bg = fun _ => 1#1) :
    (∀ i, ∃ r : ℝ, query i = (r : EReal)) ∧ (∀ i, ∃ r : ℝ, slots i = (r : EReal)) ∧ (∀ i, ∃ r : ℝ, Wq i = (r : EReal))
      ∧ ∀ i, bq i = 0 := by
  have : Subsingleton S_.Idx := ⟨fun a b => funext fun k => k.elim0⟩
  have e := congrFun h (fun k => k.elim0)
  dsimp only [fn, fn_part1] at e
  obtain ⟨e, e4⟩ := IntOp.andi_eq_one.1 e
  obtain ⟨e, e3⟩ := IntOp.andi_eq_one.1 e
  obtain ⟨e1, e2⟩ := IntOp.andi_eq_one.1 e
  exact ⟨fun i => real_of_abs_lt (Host.reduce_andi_all _ _ _ _ _ e1 i), fun i => real_of_abs_lt (Host.reduce_andi_all _ _ _ _ _ e2 i),
    fun i => real_of_abs_lt (Host.reduce_andi_all _ _ _ _ _ e3 i), fun i => zero_of_eq (Host.reduce_andi_all _ _ _ _ _ e4 i)⟩

end Cert.Pre_finite_and_unbiased.Hand

end
-- ==== Proof.lean ====
/-
  The proof of `Cert.Claim`. The kernel's result array is read in Proof/KernelArray.lean, the reference's in Proof/RefArray.lean, both
  at a row and a column, each as the mathematics of one row; Proof/Row.lean proves the two rows equal on the inputs that
  Proof/Pre.lean reads off the precondition. Here they are put side by side on memories that agree on the arguments.
-/
module

public import proofs.«01_k».proof.Defs
public import proofs.«01_k».proof.Proof.Gen.Kernel.Frame
public import proofs.«01_k».proof.Proof.KernelArray
public import proofs.«01_k».proof.Proof.RefArray
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs from any memory, keeps its arguments and ends with every counter at zero: it declares none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel runs from any memory, ends with its result array at `KernelIdeal.Hand.result`, and keeps its arguments. -/
theorem kernel_run (m : (ℓ : Loc KernelIdeal.nD KernelIdeal.τ KernelIdeal.sig) → Buf (Elt Ideal) ℓ) (ρ : Dev KernelIdeal.nD → PrngReg) :
    θ_run Cert.KernelIdeal.defs (onTc (τ := KernelIdeal.τ) (Cert.KernelIdeal.main (F := Ideal))) ⟨m, fun _ => 0, ρ⟩ fun r => ∀ c : Dev KernelIdeal.nD,
      r.2.mem ((c : Thread KernelIdeal.nD KernelIdeal.τ).loc KernelIdeal.main_v0) = KernelIdeal.Hand.result m c
      ∧ r.2.mem ((c : Thread KernelIdeal.nD KernelIdeal.τ).loc KernelIdeal.main_arg0) = m ((c : Thread KernelIdeal.nD KernelIdeal.τ).loc KernelIdeal.main_arg0)
      ∧ r.2.mem ((c : Thread KernelIdeal.nD KernelIdeal.τ).loc KernelIdeal.main_arg1) = m ((c : Thread KernelIdeal.nD KernelIdeal.τ).loc KernelIdeal.main_arg1)
      ∧ r.2.mem ((c : Thread KernelIdeal.nD KernelIdeal.τ).loc KernelIdeal.main_arg2) = m ((c : Thread KernelIdeal.nD KernelIdeal.τ).loc KernelIdeal.main_arg2)
      ∧ r.2.mem ((c : Thread KernelIdeal.nD KernelIdeal.τ).loc KernelIdeal.main_arg3) = m ((c : Thread KernelIdeal.nD KernelIdeal.τ).loc KernelIdeal.main_arg3)
      ∧ r.2.mem ((c : Thread KernelIdeal.nD KernelIdeal.τ).loc KernelIdeal.main_arg4) = m ((c : Thread KernelIdeal.nD KernelIdeal.τ).loc KernelIdeal.main_arg4)
      ∧ r.2.mem ((c : Thread KernelIdeal.nD KernelIdeal.τ).loc KernelIdeal.main_arg5) = m ((c : Thread KernelIdeal.nD KernelIdeal.τ).loc KernelIdeal.main_arg5) :=
  (θ_run Cert.KernelIdeal.defs _ _).mono (fun _ h c => ⟨(h c).1.trans (KernelIdeal.Hand.array_eq m c), (h c).2⟩)
    (Cert.KernelIdeal.Value.run_blocks (F := Ideal) m ρ)

instance preFacts : Cert.Pre_finite_and_unbiased.Facts := Pre_finite_and_unbiased.Hand.facts

/-- THE VALUE CLAIM: under the precondition, on memories that agree on the six arguments, the kernel's result array and the
    reference's are equal, element by element. -/
theorem algebraic : algebraic_KernelIdeal_ReferenceIdeal_pre_finite_and_unbiased := by
  intro m ρ m' ρ' hpre hagree
  refine ⟨fun c => KernelIdeal.Hand.result m c, kernel_run m ρ, ?_⟩
  refine (θ_run Cert.ReferenceIdeal.defs _ _).mono (fun _ h c => ⟨?_, (h c).2⟩) (Cert.ReferenceIdeal.Value.run (F := Ideal) m' ρ')
  obtain ⟨hq, hs, hw, hb⟩ := Pre_finite_and_unbiased.Hand.conjuncts _ _ _ _ _ _ (hpre c)
  obtain ⟨a0, a1, a2, a3, a4, a5⟩ := hagree c
  rw [(h c).1]
  funext y
  rw [eq_ix2 y]
  refine (ReferenceIdeal.Hand.result_apply m' c (y 0) (y 1)).trans ?_
  rw [a0, a1, a2, a3, a4, a5]
  exact (Row.out_eq (fun k => hq _) (fun s k => hs _) (fun j k => hw _) (fun j => hb _) _ _ _).symm

/-- Every claim of the certificate. -/
theorem claim : Cert.Claim := ⟨Cert.Kernel.Gen.facts, Cert.KernelIdeal.Gen.facts, Cert.ReferenceIdeal.Gen.facts, preFacts,
  fun m ρ _ => Cert.Kernel.Gen.frame m ρ,
  fun m ρ _ => Cert.KernelIdeal.Gen.frame m ρ,
  fun m ρ _ => Cert.KernelIdeal.Gen.frame m ρ,
  quiescent_ReferenceIdeal,
  fun m ρ _ => quiescent_ReferenceIdeal m ρ trivial,
  (trivial : preserves_Kernel_KernelIdeal),
  algebraic⟩

end Cert.Proof

end
